-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256x256 : Shape := ⟨3, ![1024, 256, 256]⟩
abbrev S1024x65536 : Shape := ⟨2, ![1024, 65536]⟩
abbrev S1024x32896 : Shape := ⟨2, ![1024, 32896]⟩
abbrev S65552 : Shape := ⟨1, ![65552]⟩
abbrev S32912 : Shape := ⟨1, ![32912]⟩
abbrev S_ : Shape := ⟨0, ![]⟩
abbrev S65536 : Shape := ⟨1, ![65536]⟩
abbrev S1x65536 : Shape := ⟨2, ![1, 65536]⟩
abbrev S16 : Shape := ⟨1, ![16]⟩
abbrev S32896 : Shape := ⟨1, ![32896]⟩
abbrev S1x32896 : Shape := ⟨2, ![1, 32896]⟩

abbrev nBuf : Table → Nat
  | .hbm => 3
  | .local .scVector .vmem => 2
  | _ => 0

abbrev bufTy : (tb : Table) → Fin (nBuf tb) → BufTy
  | .hbm, ⟨0, _⟩ => ⟨S1024x256x256, .f32⟩
  | .hbm, ⟨1, _⟩ => ⟨S1024x65536, .f32⟩
  | .hbm, ⟨2, _⟩ => ⟨S1024x32896, .f32⟩
  | .local .scVector .vmem, ⟨0, _⟩ => ⟨S65552, .f32⟩
  | .local .scVector .vmem, ⟨1, _⟩ => ⟨S32912, .f32⟩
  | _, _ => ⟨S1024x256x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c32_i32 : BitVec 32 := 32#32
  let v2 : BitVec 32 := Scalar.addi c0_i32_0 c32_i32
  let c1_i32 : BitVec 32 := 1#32
  ⟨c0_i32_0, v2, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_2 : BitVec 32 := 32#32
  let v3 : BitVec 32 := Scalar.muli v1 c32_i32_2
  let c0_i32_0 : BitVec 32 := 0#32
  let c1_i32 : BitVec 32 := 1#32
  let arg6 : BitVec 32 := Scf.iv c0_i32_0 c1_i32 k0_t1
  let v4 : BitVec 32 := Scalar.addi v3 arg6
  let c0_i32_110_r0 : BitVec 32 := 0#32
  ![v4.toNat, 0]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_2 : BitVec 32 := 32#32
  let v3 : BitVec 32 := Scalar.muli v1 c32_i32_2
  let c0_i32_0 : BitVec 32 := 0#32
  let c1_i32 : BitVec 32 := 1#32
  let arg6 : BitVec 32 := Scf.iv c0_i32_0 c1_i32 k0_t1
  let v4 : BitVec 32 := Scalar.addi v3 arg6
  let c0_i32_110_r1 : BitVec 32 := 0#32
  ![v4.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x256x256 : Shape := ⟨3, ![1024, 256, 256]⟩
abbrev S32896 : Shape := ⟨1, ![32896]⟩
abbrev S_ : Shape := ⟨0, ![]⟩
abbrev S32896x1 : Shape := ⟨2, ![32896, 1]⟩
abbrev S32896x2 : Shape := ⟨2, ![32896, 2]⟩
abbrev S1024x32896 : Shape := ⟨2, ![1024, 32896]⟩

abbrev nBuf : Space → Nat
  | .hbm => 21
  | .vmem => 0
  | .smem => 0
  | _ => 0

abbrev bufTy : (tb : Table) → Fin (tcTables nBuf tb) → BufTy
  | .hbm, ⟨0, _⟩ => ⟨S1024x256x256, .f32⟩
  | .hbm, ⟨1, _⟩ => ⟨S32896, .i32⟩
  | .hbm, ⟨2, _⟩ => ⟨S32896, .i32⟩
  | .hbm, ⟨3, _⟩ => ⟨S_, .i32⟩
  | .hbm, ⟨4, _⟩ => ⟨S32896, .i32⟩
  | .hbm, ⟨5, _⟩ => ⟨S32896, .i1⟩
  | .hbm, ⟨6, _⟩ => ⟨S_, .i32⟩
  | .hbm, ⟨7, _⟩ => ⟨S32896, .i32⟩
  | .hbm, ⟨8, _⟩ => ⟨S32896, .i32⟩
  | .hbm, ⟨9, _⟩ => ⟨S32896, .i32⟩
  | .hbm, ⟨10, _⟩ => ⟨S_, .i32⟩
  | .hbm, ⟨11, _⟩ => ⟨S32896, .i32⟩
  | .hbm, ⟨12, _⟩ => ⟨S32896, .i1⟩
  | .hbm, ⟨13, _⟩ => ⟨S_, .i32⟩
  | .hbm, ⟨14, _⟩ => ⟨S32896, .i32⟩
  | .hbm, ⟨15, _⟩ => ⟨S32896, .i32⟩
  | .hbm, ⟨16, _⟩ => ⟨S32896, .i32⟩
  | .hbm, ⟨17, _⟩ => ⟨S32896x1, .i32⟩
  | .hbm, ⟨18, _⟩ => ⟨S32896x1, .i32⟩
  | .hbm, ⟨19, _⟩ => ⟨S32896x2, .i32⟩
  | .hbm, ⟨20, _⟩ => ⟨S1024x32896, .f32⟩
  | _, _ => ⟨S1024x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_v0 : Ref sig .tc := ⟨.hbm, 4, rfl⟩
abbrev main_v1 : Ref sig .tc := ⟨.hbm, 5, rfl⟩
abbrev main_c_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_v5 : Ref sig .tc := ⟨.hbm, 11, rfl⟩
abbrev main_v6 : Ref sig .tc := ⟨.hbm, 12, rfl⟩
abbrev main_c_4 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Proof.Packing.lean ====
/-
  The packed upper triangle as arithmetic. A 256 × 256 matrix's entries `(a, c)` with `a ≤ c` are packed row after row:
  row `a` contributes `256 - a` entries and starts at `off a`, so that entry `(a, c)` is at `off a + (c - a)`.
  Here: the row offsets grow by the rows' lengths, a packed position belongs to one row only, and every position below
  32896 is some entry's. `upper` is the packed triangle of each of 1024 matrices, which is what the kernel and the
  reference both compute.
-/
module

public import Idealize.ShloMosaic.Lib.Decide
public import Idealize.ShloMosaic.Lib.ValueIdxCoords
public import Mathlib.Data.Nat.Find

@[expose] public section

namespace Cert.Packing

open Idealize.ShloMosaic
open Idealize.ShloMosaic.ValueIdx (ix3)

/-- Where row `a` of the packed triangle starts. -/
def off (a : ℕ) : ℕ := 256 * a - a * (a - 1) / 2

/-- The next row starts `256 - a` entries later. -/
theorem off_succ {a : ℕ} (h : a < 256) : off (a + 1) = off a + (256 - a) := by
  have key : ∀ a : Fin 256, off (a.val + 1) = off a.val + (256 - a.val) := by decide +kernel
  exact key ⟨a, h⟩

/-- The packed triangle starts at 0 … -/
theorem off_zero : off 0 = 0 := rfl

/-- … and has 32896 entries. -/
theorem off_last : off 256 = 32896 := rfl

/-- Later rows start later. -/
theorem off_mono {a b : ℕ} (h : a ≤ b) (hb : b ≤ 256) : off a ≤ off b := by
  induction b, h using Nat.le_induction with
  | base => exact le_rfl
  | succ n hn ih => have := ih (by omega); have := off_succ (a := n) (by omega); omega

/-- A packed position lies in one row only. -/
theorem row_unique {a b p : ℕ} (ha : a < 256) (hb : b < 256) (h1 : off a ≤ p) (h2 : p < off (a + 1)) (h3 : off b ≤ p)
    (h4 : p < off (b + 1)) : a = b := by
  rcases lt_trichotomy a b with h | h | h
  · have := off_mono (a := a + 1) (b := b) h (by omega); omega
  · exact h
  · have := off_mono (a := b + 1) (b := a) h (by omega); omega

/-- Two entries of the upper triangle at one packed position are the same entry. -/
theorem entry_unique {a c a' c' : ℕ} (h : a ≤ c) (hc : c < 256) (h' : a' ≤ c') (hc' : c' < 256)
    (e : off a + (c - a) = off a' + (c' - a')) : a = a' ∧ c = c' := by
  have s := off_succ (a := a) (by omega)
  have s' := off_succ (a := a') (by omega)
  have : a = a' := row_unique (p := off a + (c - a)) (by omega) (by omega) (by omega) (by omega) (by omega) (by omega)
  subst this
  exact ⟨rfl, by omega⟩

/-- The row of a packed position: the last one that starts no later. -/
def rowOf (p : ℕ) : ℕ := Nat.findGreatest (fun a => off a ≤ p) 255

/-- The column of a packed position. -/
def colOf (p : ℕ) : ℕ := rowOf p + (p - off (rowOf p))

/-- Every position below 32896 is its row's and column's entry, an entry of the upper triangle. -/
theorem entry_of {p : ℕ} (hp : p < 32896) : rowOf p ≤ colOf p ∧ colOf p < 256 ∧ off (rowOf p) + (colOf p - rowOf p) = p := by
  have h0 : off (rowOf p) ≤ p := Nat.findGreatest_spec (P := fun a => off a ≤ p) (m := 0) (by omega) (by simp [off_zero])
  have hr : rowOf p ≤ 255 := Nat.findGreatest_le 255
  have s := off_succ (a := rowOf p) (by omega)
  have h1 : p < off (rowOf p + 1) := by
    by_contra hn
    rcases Nat.lt_or_ge (rowOf p) 255 with h | h
    · exact Nat.findGreatest_is_greatest (P := fun a => off a ≤ p) (n := 255) (k := rowOf p + 1) (Nat.lt_succ_self _) h (by omega)
    · have : rowOf p = 255 := by omega
      rw [this, off_last] at hn
      omega
  unfold colOf
  omega

/-- The row and column of an entry's packed position are the entry's own. -/
theorem entry_eq {a c : ℕ} (h : a ≤ c) (hc : c < 256) (hp : off a + (c - a) < 32896) :
    rowOf (off a + (c - a)) = a ∧ colOf (off a + (c - a)) = c := by
  obtain ⟨h1, h2, h3⟩ := entry_of hp
  exact entry_unique h1 h2 h hc h3

/-- The packed upper triangles of 1024 matrices: at position `p` of each, the entry whose position `p` is. -/
def upper {α : Type} (x : (⟨3, ![1024, 256, 256]⟩ : Shape).Idx → α) : (⟨2, ![1024, 32896]⟩ : Shape).Idx → α :=
  fun i =>
    have h := entry_of (p := (i 1).val) (i 1).isLt
    x (ix3 (n0 := 1024) (n1 := 256) (n2 := 256) (i 0) ⟨rowOf (i 1).val, by omega⟩ ⟨colOf (i 1).val, h.2.1⟩)

end Cert.Packing
-- ==== Proof.Copies.lean ====
/-
  The kernel's body, said shortly. A subcore makes 32 trips. A trip fetches one matrix, row after row, into a scratch
  buffer, copies the part of each row from the diagonal on to its packed place in a second buffer, sixteen numbers at a
  time, and sends that buffer out. The last copy of a row may run past the row's end: what it writes there is overwritten
  by the next row. The program states every one of the 2176 copies; here they are one recursion.
-/
module

public import proofs.«01_k».proof.Kernel

@[expose] public section

noncomputable section

namespace Cert.Kernel.Copies

open Idealize.ShloMosaic Idealize.SL.Sem

variable {F : FTy → Type} [FloatOps F]
variable [Facts]
open K0.Facts₀ Shapes1.Facts₀ Shapes2.Facts₀ Shapes3.Facts₀ Shapes4.Facts₀ Shapes5.Facts₀

/-- Where chunk `t` of row `i` is read: the matrix is stored row after row, 256 to a row, and row `i` starts on the diagonal. -/
def src (i t : Nat) : Nat := (257 * i + 16 * t) % 65537

/-- Where it is written: rows `0 … i-1` hold `256 + 255 + …` elements. -/
def dst (i t : Nat) : Nat := (256 * i - i * (i - 1) / 2 + 16 * t) % 32897

/-- A chunk read lies in the first scratch buffer. -/
theorem src_inb (i t : Nat) : ∀ a, (![src i t] : Fin 1 → Nat) a + S16.size a ≤ S65552.size a := by
  intro a; fin_cases a; have := Nat.mod_lt (257 * i + 16 * t) (show 0 < 65537 by decide)
  show (257 * i + 16 * t) % 65537 + 16 ≤ 65552; omega

/-- A chunk written lies in the second one. -/
theorem dst_inb (i t : Nat) : ∀ a, (![dst i t] : Fin 1 → Nat) a + S16.size a ≤ S32912.size a := by
  intro a; fin_cases a; have := Nat.mod_lt (256 * i - i * (i - 1) / 2 + 16 * t) (show 0 < 32897 by decide)
  show (256 * i - i * (i - 1) / 2 + 16 * t) % 32897 + 16 ≤ 32912; omega

/-- A program of the subcore at coordinates `i`. -/
abbrev PG (F : FTy → Type) (i : grid0.Coords) (α : Type) : Type 1 :=
  Prog (TpuEff nD τ sig (Elt F) Λ₀ (.scVector ((i 0).castLE hcore0) ((i 1).castLE hsub0))) α

section
variable {i : grid0.Coords} {α : Type}

/-- Read chunk `t` of row `r`, then go on with what was read. -/
def ld (x : Memref sig .scVector .vmem S65552 .f32) (r t : Nat) (K : Vec F S16 .f32 → PG F i α) : PG F i α :=
  .op (.load x (Rect.unit (s := S65552) ![src r t] S16.size (src_inb r t)).toLoadRect (View.loadsAt_vmem h_S16)) K

/-- Read the place where it is to be written; what is read there is not used. -/
def peek (y : Memref sig .scVector .vmem S32912 .f32) (r t : Nat) (K : PG F i α) : PG F i α :=
  .op (.load y (Rect.unit (s := S32912) ![dst r t] S16.size (dst_inb r t)).toLoadRect (View.loadsAt_vmem h_S16)) fun _ => K

/-- Write a chunk there. -/
def st (y : Memref sig .scVector .vmem S32912 .f32) (r t : Nat) (v : Vec F S16 .f32) (K : PG F i α) : PG F i α :=
  .op (.store y (Rect.unit (s := S32912) ![dst r t] S16.size (dst_inb r t)) v Finset.univ (View.stores_vmem_bits_univ h_S16 rfl) (.inl rfl)) fun _ => K

/-- Sixteen numbers as sixteen numbers: the kernel's two casts, which change nothing. -/
def flat (v : Vec F S16 .f32) : FVec F S16 .f32 := shapeCast S16 v shapeCasts_S16_S16

/-- Copy chunk `t` of row `r` into its packed place. -/
def copy (x : Memref sig .scVector .vmem S65552 .f32) (y : Memref sig .scVector .vmem S32912 .f32) (r t : Nat) (K : PG F i α) : PG F i α :=
  ld x r t fun v => peek y r t (st y r t (flat (flat v)) K)

/-- The next `n` copies from chunk `t` of row `r` on: along the row while it lasts, then the next row from its diagonal. -/
def copies (x : Memref sig .scVector .vmem S65552 .f32) (y : Memref sig .scVector .vmem S32912 .f32) : Nat → Nat → Nat → PG F i α → PG F i α
  | 0, _, _, K => K
  | n + 1, r, t, K => copy x y r t (cond (Nat.blt (16 * (t + 1)) (256 - r)) (copies x y n r (t + 1) K) (copies x y n (r + 1) 0 K))

end

/-- One trip: the row in, the copies, the packed row out. -/
def trip (i : grid0.Coords) (arg2 : Memref sig .scVector .hbm S1024x65536 .f32) (arg3 : Memref sig .scVector .hbm S1024x32896 .f32)
    (arg4 : Memref sig .scVector .vmem S65552 .f32) (arg5 : Memref sig .scVector .vmem S32912 .f32) (s0 s1 : DmaSems sig S_)
    (k : Fin k0_t1_loop.trips) : PG F i PUnit :=
  .op (.enqueueDma ((arg2.slice (Rect.unit (s := S1024x65536) (k0_off1 i k) S1x65536.size (k0_off1_inb i k)) (fun _ => rfl)).squeeze S65536 squeezes_S1x65536_S65536)
      (.here (arg4.slice (Rect.unit (s := S65552) ![0] S65536.size inb_S65552_S65536_0) (fun _ => rfl))) (.dma s0.sem)
      ((View.wordExact_bits rfl).reshape _ _) (View.wordExact_bits rfl) ⟨Or.inl rfl, trivial⟩) fun _ =>
  .op (.waitDma2 s0.sem ((arg2.slice (Rect.unit (s := S1024x65536) (k0_off1 i k) S1x65536.size (k0_off1_inb i k)) (fun _ => rfl)).squeeze S65536 squeezes_S1x65536_S65536)
      (arg4.slice (Rect.unit (s := S65552) ![0] S65536.size inb_S65552_S65536_0) (fun _ => rfl))
      ((View.wordExact_bits rfl).reshape _ _) (View.wordExact_bits rfl)) fun _ =>
  copies arg4 arg5 2176 0 0 <|
  .op (.enqueueDma (arg5.slice (Rect.unit (s := S32912) ![0] S32896.size inb_S32912_S32896_0) (fun _ => rfl))
      (.here ((arg3.slice (Rect.unit (s := S1024x32896) (k0_off2 i k) S1x32896.size (k0_off2_inb i k)) (fun _ => rfl)).squeeze S32896 squeezes_S1x32896_S32896)) (.dma s1.sem)
      (View.wordExact_bits rfl) ((View.wordExact_bits rfl).reshape _ _) ⟨Or.inl rfl, trivial⟩) fun _ =>
  .op (.waitDma2 s1.sem (arg5.slice (Rect.unit (s := S32912) ![0] S32896.size inb_S32912_S32896_0) (fun _ => rfl))
      ((arg3.slice (Rect.unit (s := S1024x32896) (k0_off2 i k) S1x32896.size (k0_off2_inb i k)) (fun _ => rfl)).squeeze S32896 squeezes_S1x32896_S32896)
      (View.wordExact_bits rfl) ((View.wordExact_bits rfl).reshape _ _)) fun _ =>
  .ret ⟨⟩

set_option maxRecDepth 10000000 in
set_option maxHeartbeats 40000000 in
/-- The kernel's body is the loop of these trips. -/
theorem body_eq (i : grid0.Coords) (arg2 : Memref sig .scVector .hbm S1024x65536 .f32) (harg2 : arg2.IsWhole) (arg3 : Memref sig .scVector .hbm S1024x32896 .f32) (harg3 : arg3.IsWhole) (arg4 : Memref sig .scVector .vmem S65552 .f32) (harg4 : arg4.IsWhole) (arg5 : Memref sig .scVector .vmem S32912 .f32) (harg5 : arg5.IsWhole) (s0 : DmaSems sig S_) (s1 : DmaSems sig S_) :
    (cc0__body i arg2 harg2 arg3 harg3 arg4 harg4 arg5 harg5 s0 s1 : PG F i PUnit)
      = (Scf.Loop.for k0_t1_loop k0_t1_ok (⟨⟩ : PUnit) fun k _ => trip i arg2 arg3 arg4 arg5 s0 s1 k) >>= fun _ => pure ⟨⟩ := rfl

end Cert.Kernel.Copies
end
-- ==== Proof.Setup.lean ====
/-
  The kernel's launch as the launch theorem takes it, the arrays and scratch buffers by name, and one vector subcore.
-/
module

public import proofs.«01_k».proof.Kernel
public import proofs.«01_k».proof.Proof.Gen.Kernel
public import proofs.«01_k».proof.Proof.Packing
public import proofs.«01_k».proof.Proof.Copies
public import Idealize.ShloMosaic.Lib.SparseCore.Quiescent
public import Idealize.ShloMosaic.Lib.StableHlo.Run
public import Idealize.ShloMosaic.Lib.Pipeline.Kit
public import Idealize.ShloMosaic.Lib.Pipeline.Value
public import Idealize.ShloMosaic.Lib.Tactic

@[expose] public section

noncomputable section

namespace Cert.Kernel.Run

open Cert.Kernel Cert.Kernel.Gen
open Idealize.ShloMosaic
open Idealize.ShloMosaic.SparseCore (S V T)
open Idealize.ShloMosaic.SparseCore.Cfg (HIx)
open Idealize.SL Idealize.SL.RA Idealize.SL.BI
open Idealize.SL.Sem
open Idealize.ShloMosaic.Rounds

variable {F : FTy → Type}

/-- The labels under the launch's own. -/
abbrev ΛP : Labels := Pipeline.Sig Λ₀ (Fin 0) fun p => (pcfgs (F := F) p).Adm
/-- The launch: one call, on every vector subcore. -/
abbrev K : SparseCore.Cfg τ sig (ΛP (F := F)) 1 := sc (F := F)
/-- The body table under the launch's own. -/
abbrev D [FloatOps F] : Defs nD τ sig (Elt F) (ΛP (F := F)) := Pipeline.defs pcfgs defs₀
/-- No loop of the kernel runs an unknown number of times. -/
abbrev 𝒱₀ : Variants := Variants.none
/-- The same, under the launch's labels. -/
abbrev 𝒱 : Variants := 𝒱₀.lift
/-- The bound of a loop that there is none of. -/
abbrev v₀ : 𝒱.V := Sum.inl none

/-- The launch's semaphores are distinct and outlive it, and no scratch is shared by two subcores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Ghost state: the launch's handshakes beside the transfers' counters. -/
abbrev UH : Type := URounds (GSem nD τ sig) ℕ
/-- The two together. -/
abbrev UU : Type := UH × Counters

/-- The handshakes' part of the ghost state. -/
abbrev EH : Emb UH (MT nD τ sig (HIx 1) (Elt F) ℕ UU ℕ) := embL

/-- The argument, the argument as 1024 rows of 65536, and the result, as locations of device `d`. -/
abbrev aLoc (d : Dev nD) : Loc nD τ sig := (SparseCore.T d).loc main_arg0
/-- The argument as 1024 rows. -/
abbrev xLoc (d : Dev nD) : Loc nD τ sig := (SparseCore.T d).loc main_v0
/-- The result. -/
abbrev oLoc (d : Dev nD) : Loc nD τ sig := (SparseCore.T d).loc main_v1

/-- The rows and the result as a subcore addresses them, and its two scratch buffers. -/
abbrev xV : Memref sig .scVector .hbm S1024x65536 .f32 := Memref.whole main_v0_scv
/-- The result as a subcore addresses it. -/
abbrev oV : Memref sig .scVector .hbm S1024x32896 .f32 := Memref.whole main_v1_scv
/-- The scratch buffer that a row is fetched into. -/
abbrev sX : Memref sig .scVector .vmem S65552 .f32 := Memref.whole cc0_scratch0
/-- The scratch buffer that a row is packed in. -/
abbrev sO : Memref sig .scVector .vmem S32912 .f32 := Memref.whole cc0_scratch1

/-- The vector subcore at coordinates `L`. -/
abbrev cV (L : grid0.Coords) : Fin τ.nSC := (L 0).castLE hcore0
/-- Its number among its SparseCore's subcores. -/
abbrev jV (L : grid0.Coords) : Fin τ.nSub := (L 1).castLE hsub0
/-- Its thread. -/
abbrev tl (d : Dev nD) (L : grid0.Coords) : Thread nD τ := V d (cV L) (jV L)

end Cert.Kernel.Run
end
-- ==== Proof.CopyRun.lean ====
/-
  The copies between the two scratch buffers: run from the first on, they leave the packed upper triangle in the second.
  A copy moves 16 numbers, so a row's last copy may write past the row's end; what lies there belongs to later rows, and
  their copies come later.
-/
module

public import proofs.«01_k».proof.Proof.Setup

@[expose] public section

noncomputable section

namespace Cert.Kernel.Run

open Cert.Kernel Cert.Kernel.Gen Cert.Kernel.Copies Cert.Packing
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The first `n` packed entries of `Y` are the matrix `X`'s: entry `(a, c)` is read at `256 a + c`. -/
def Packed (n : ℕ) (X : S65552.Idx → Elt F .f32) (Y : S32912.Idx → Elt F .f32) : Prop :=
  ∀ a c : ℕ, a ≤ c → c < 256 → off a + (c - a) < n →
    ∀ (u : S65552.Idx) (w : S32912.Idx), (u 0).val = 256 * a + c → (w 0).val = off a + (c - a) → Y w = X u

/-- The position before chunk `t` of row `r` is in range, and the copies from there on number `n` and end with the last row. -/
def ends : ℕ → ℕ → ℕ → Bool
  | 0, r, t => Nat.beq r 256 && Nat.beq t 0
  | n + 1, r, t => Nat.blt r 256 && Nat.blt (16 * t) (256 - r) &&
      cond (Nat.blt (16 * (t + 1)) (256 - r)) (ends n r (t + 1)) (ends n (r + 1) 0)

/-- From the first chunk of the first row there are 2176 copies. -/
theorem ends_all : ends 2176 0 0 = true := by decide +kernel

/-- Where chunk `t` of row `r` is read and written. -/
theorem src_eq {r t : ℕ} (hr : r < 256) (ht : 16 * t < 256 - r) : src r t = 257 * r + 16 * t := Nat.mod_eq_of_lt (by omega)
/-- It is written at its packed place. -/
theorem dst_eq {r t : ℕ} (hr : r < 256) (ht : 16 * t < 256 - r) : dst r t = off r + 16 * t := by
  have h := off_succ hr
  have h' := off_mono (a := r + 1) (b := 256) hr le_rfl
  have := off_last
  exact Nat.mod_eq_of_lt (show off r + 16 * t < 32897 by omega)

/-- `Y'` is `Y` with the sixteen numbers of chunk `t` of row `r` copied from `X`, and whatever it may be after them. -/
def Copied (r t : ℕ) (X : S65552.Idx → Elt F .f32) (Y Y' : S32912.Idx → Elt F .f32) : Prop :=
  (∀ w : S32912.Idx, (w 0).val < dst r t → Y' w = Y w) ∧
    ∀ (w : S32912.Idx) (u : S65552.Idx) (x : ℕ), x < 16 → (w 0).val = dst r t + x → (u 0).val = src r t + x → Y' w = X u

/-- One copy more: sixteen entries from the row's chunk on are right, or the rest of the row if that is less. -/
theorem packed_copy {r t : ℕ} (hr : r < 256) (ht : 16 * t < 256 - r) {X : S65552.Idx → Elt F .f32} {Y Y' : S32912.Idx → Elt F .f32}
    (h : Packed (off r + 16 * t) X Y) (hY' : Copied r t X Y Y')
    {n : ℕ} (hn : n ≤ off r + 16 * (t + 1)) (hn' : n ≤ off (r + 1)) : Packed n X Y' := by
  obtain ⟨keep, new⟩ := hY'
  rw [src_eq hr ht] at new; rw [dst_eq hr ht] at keep new
  intro a c hac hc hlt u w hu hw
  by_cases hp : off a + (c - a) < off r + 16 * t
  · rw [keep w (by omega)]; exact h a c hac hc hp u w hu hw
  · have s := off_succ (a := a) (by omega)
    have e : a = r := row_unique (p := off a + (c - a)) (by omega) hr (by omega) (by omega) (by omega) (by omega)
    subst e
    exact new w u (c - a - 16 * t) (by omega) (by omega) (by omega)

/-- The indices of the two scratch buffers' chunks. -/
theorem src_idx (r t : ℕ) (x : S16.Idx) :
    ((Rect.unit (s := S65552) ![src r t] S16.size (src_inb r t)).toLoadRect.idx x 0).val = src r t + (x 0).val := by
  rw [LoadRect.idx_apply]
  show src r t + 1 * (x 0).val = _
  omega

/-- A store of 16 numbers changes the numbers there … -/
theorem store_new (r t : ℕ) (Y : S32912.Idx → Elt F .f32) (v : S16.Idx → Elt F .f32) (x : S16.Idx) (w : S32912.Idx)
    (hw : (w 0).val = dst r t + (x 0).val) :
    (sO.access (Rect.unit (s := S32912) ![dst r t] S16.size (dst_inb r t))).write (Elt F) Y v Finset.univ w = v x := by
  have e : (sO.access (Rect.unit (s := S32912) ![dst r t] S16.size (dst_inb r t))).emb x = w := by
    funext a; obtain rfl : a = 0 := Subsingleton.elim (α := Fin 1) a 0
    apply Fin.ext
    show dst r t + 1 * (x 0).val = _
    omega
  rw [← e, View.write_emb_of_mem _ _ (Finset.mem_univ x)]; rfl

/-- … and no number before them. -/
theorem store_keep (r t : ℕ) (Y : S32912.Idx → Elt F .f32) (v : S16.Idx → Elt F .f32) (w : S32912.Idx) (hw : (w 0).val < dst r t) :
    (sO.access (Rect.unit (s := S32912) ![dst r t] S16.size (dst_inb r t))).write (Elt F) Y v Finset.univ w = Y w := by
  apply View.write_of_not_mem
  intro h
  rw [View.setOn, Finset.mem_map] at h
  obtain ⟨x, -, rfl⟩ := h
  have : ((sO.access (Rect.unit (s := S32912) ![dst r t] S16.size (dst_inb r t))).emb x 0).val = dst r t + 1 * (x 0).val := rfl
  omega

variable [FloatOps F]

/-- One copy, in a program that goes on with `k`: `k` starts with the sixteen numbers written. -/
theorem wp_copy (d : Dev nD) (L : grid0.Coords) {α : Type} (k : PG F L α) (Q : α → sProp 𝕄) (X : Buf (Elt F) ((tl d L).loc cc0_scratch0))
    (Y : Buf (Elt F) ((tl d L).loc cc0_scratch1)) (r t : ℕ) :
    iprop(((tl d L).loc cc0_scratch0 ↦{fullShare} X) ∗ ((tl d L).loc cc0_scratch1 ↦{fullShare} Y)
        ∗ (∀ Y', ⌜Copied r t X Y Y'⌝ -∗ ((tl d L).loc cc0_scratch0 ↦{fullShare} X) -∗ ((tl d L).loc cc0_scratch1 ↦{fullShare} Y')
            -∗ wp frame (wpE (defs₀ (F := F)) 𝒱₀ (tl d L) none) Set.univ k Q))
      ⊢ wp frame (wpE (defs₀ (F := F)) 𝒱₀ (tl d L) none) Set.univ (copy sX sO r t k) Q := by
  iintro ⟨HX, HY, Hk⟩
  simp only [copy, ld, peek, st]
  iapply (wp_load 𝒱₀ (tl d L) none Set.univ (m := sX) (S := Finset.univ) (f := X) (Finset.subset_univ _)) $$ HX
  iintro HX
  iapply (wp_load 𝒱₀ (tl d L) none Set.univ (m := sO) (S := Finset.univ) (f := Y) (Finset.subset_univ _)) $$ HY
  iintro HY
  iapply (wp_store 𝒱₀ (tl d L) none Set.univ (m := sO) (r := Rect.unit (s := S32912) ![dst r t] S16.size (dst_inb r t))
    (S := (Finset.univ : Finset (Idx ((tl d L).loc cc0_scratch1)))) (f := Y) (Finset.subset_univ _)) $$ HY
  iintro HY
  iapply Hk $$ [] [HX] [HY]
  rotate_left
  · iexact HX
  · iexact HY
  · ipureintro
    exact ⟨fun w hw => store_keep r t Y _ w hw, fun w u x hx hw hu => by
      refine (store_new r t Y _ (fun a => ⟨x, by obtain rfl : a = 0 := Subsingleton.elim (α := Fin 1) a 0; exact hx⟩) w hw).trans ?_
      rw [flat, shapeCast_self, flat, shapeCast_self, View.readAt_apply, View.read_whole]
      congr 1
      funext a; obtain rfl : a = 0 := Subsingleton.elim (α := Fin 1) a 0
      exact Fin.ext ((src_idx r t _).trans hu.symm)⟩

/-- The copies from chunk `t` of row `r` on, in a program that goes on with `k`: `k` starts with everything packed. -/
theorem wp_copies (d : Dev nD) (L : grid0.Coords) {α : Type} (k : PG F L α) (Q : α → sProp 𝕄) (X : Buf (Elt F) ((tl d L).loc cc0_scratch0))
    (n : ℕ) : ∀ (r t : ℕ) (_ : ends n r t = true) (Y : Buf (Elt F) ((tl d L).loc cc0_scratch1)) (_ : Packed (off r + 16 * t) X Y),
    iprop(((tl d L).loc cc0_scratch0 ↦{fullShare} X) ∗ ((tl d L).loc cc0_scratch1 ↦{fullShare} Y)
        ∗ (∀ Y', ⌜Packed 32896 X Y'⌝ -∗ ((tl d L).loc cc0_scratch0 ↦{fullShare} X) -∗ ((tl d L).loc cc0_scratch1 ↦{fullShare} Y')
            -∗ wp frame (wpE (defs₀ (F := F)) 𝒱₀ (tl d L) none) Set.univ k Q))
      ⊢ wp frame (wpE (defs₀ (F := F)) 𝒱₀ (tl d L) none) Set.univ (copies sX sO n r t k) Q := by
  induction n with
  | zero =>
    intro r t hok Y hY
    simp only [ends, Bool.and_eq_true, Nat.beq_eq] at hok
    obtain ⟨rfl, rfl⟩ := hok
    iintro ⟨HX, HY, Hk⟩
    simp only [copies]
    iapply Hk $$ [] [HX] [HY]
    · ipureintro; exact hY
    · iexact HX
    · iexact HY
  | succ n ih =>
    intro r t hok Y hY
    simp only [ends, Bool.and_eq_true, Nat.blt_eq] at hok
    obtain ⟨⟨hr, ht⟩, hok⟩ := hok
    have hs := off_succ hr
    iintro ⟨HX, HY, Hk⟩
    simp only [copies]
    iapply (wp_copy d L _ Q X Y r t)
    isplitl [HX]; · iexact HX
    isplitl [HY]; · iexact HY
    iintro %Y' %hc HX HY
    by_cases hl : 16 * (t + 1) < 256 - r
    · rw [Nat.blt_eq.mpr hl] at hok ⊢
      iapply (ih r (t + 1) hok Y' (packed_copy hr ht hY hc (by omega) (by omega)))
      isplitl [HX]; · iexact HX
      isplitl [HY]; · iexact HY
      iexact Hk
    · rw [Bool.eq_false_iff.mpr fun e => hl (Nat.blt_eq.mp e)] at hok ⊢
      iapply (ih (r + 1) 0 hok Y' (packed_copy hr ht hY hc (by omega) (by omega)))
      isplitl [HX]; · iexact HX
      isplitl [HY]; · iexact HY
      iexact Hk

end Cert.Kernel.Run
end
-- ==== Proof.Rows.lean ====
/-
  One trip's rows: which elements of the two arrays a trip's transfers touch, what the row fetched is, and what the row
  written back leaves in the result.
-/
module

public import proofs.«01_k».proof.Proof.CopyRun

@[expose] public section

noncomputable section

namespace Cert.Kernel.Run

open Cert.Kernel Cert.Kernel.Gen Cert.Packing
open Idealize.ShloMosaic
open Idealize.ShloMosaic.ValueIdx (ix2 ix3)
open Idealize.SL.Sem

variable {F : FTy → Type}

/-- A subcore's first row; it has 32. -/
def base (L : grid0.Coords) : ℕ := 64 * (L 1).val + 32 * (L 0).val

/-- The 32 rows from row `b` on, in either array. -/
def xRows (b : ℕ) : Finset S1024x65536.Idx := Finset.univ.filter fun i => b ≤ (i 0).val ∧ (i 0).val < b + 32
/-- The same rows of the result. -/
def oRows (b : ℕ) : Finset S1024x32896.Idx := Finset.univ.filter fun i => b ≤ (i 0).val ∧ (i 0).val < b + 32

/-- The row a trip fetches, the part of the first scratch buffer it lands in, the part of the second one that is written
    back, and the row it is written to. -/
abbrev xRow (L : grid0.Coords) (k : Fin k0_t1_loop.trips) : Memref sig .scVector .hbm S65536 .f32 :=
  (xV.slice (Rect.unit (s := S1024x65536) (k0_off1 L k) S1x65536.size (k0_off1_inb L k)) (fun _ => rfl)).squeeze S65536 squeezes_S1x65536_S65536
/-- The part of the first scratch buffer that the row lands in. -/
abbrev sXin : Memref sig .scVector .vmem S65536 .f32 :=
  sX.slice (Rect.unit (s := S65552) ![0] S65536.size inb_S65552_S65536_0) (fun _ => rfl)
/-- The part of the second one that is written back. -/
abbrev sOout : Memref sig .scVector .vmem S32896 .f32 :=
  sO.slice (Rect.unit (s := S32912) ![0] S32896.size inb_S32912_S32896_0) (fun _ => rfl)
/-- The row of the result that it is written to. -/
abbrev oRow (L : grid0.Coords) (k : Fin k0_t1_loop.trips) : Memref sig .scVector .hbm S32896 .f32 :=
  (oV.slice (Rect.unit (s := S1024x32896) (k0_off2 L k) S1x32896.size (k0_off2_inb L k)) (fun _ => rfl)).squeeze S32896 squeezes_S1x32896_S32896

/-- The loop makes 32 trips. -/
theorem trips_eq : k0_t1_loop.trips = 32 := by decide +kernel

/-- Element `j` of the row fetched is the array's at row `base L + k`, column `j`; of the row written, likewise. -/
theorem xRow_emb (L : grid0.Coords) (k : Fin k0_t1_loop.trips) (j : S65536.Idx) (i : S1024x65536.Idx)
    (h0 : (i 0).val = base L + k.val) (h1 : (i 1).val = (j 0).val) : (xRow L k).view.emb j = i := by
  funext a
  apply Fin.ext
  show k0_off1 L k a + 1 * (Shape.reshapeEquiv (squeezes_S1x65536_S65536).numel_eq j a).val = (i a).val
  rw [Shape.reshapeEquiv_cons_one, k0_off1_eq]
  match a with
  | 0 => show 64 * (L 1).val + 32 * (L 0).val + k.val + 1 * 0 = (i 0).val; rw [h0, base]; omega
  | 1 => show 0 + 1 * (j 0).val = (i 1).val; omega
/-- Element `j` of the row written is the result's at row `base L + k`, column `j`. -/
theorem oRow_emb (L : grid0.Coords) (k : Fin k0_t1_loop.trips) (j : S32896.Idx) (i : S1024x32896.Idx)
    (h0 : (i 0).val = base L + k.val) (h1 : (i 1).val = (j 0).val) : (oRow L k).view.emb j = i := by
  funext a
  apply Fin.ext
  show k0_off2 L k a + 1 * (Shape.reshapeEquiv (squeezes_S1x32896_S32896).numel_eq j a).val = (i a).val
  rw [Shape.reshapeEquiv_cons_one, k0_off2_eq]
  match a with
  | 0 => show 64 * (L 1).val + 32 * (L 0).val + k.val + 1 * 0 = (i 0).val; rw [h0, base]; omega
  | 1 => show 0 + 1 * (j 0).val = (i 1).val; omega

/-- A trip's rows are the subcore's. -/
theorem xRow_sub (L : grid0.Coords) (k : Fin k0_t1_loop.trips) : (xRow L k).view.set ⊆ xRows (base L) := by
  have hk : k.val < 32 := lt_of_lt_of_eq k.isLt trips_eq
  have hb : base L + 32 ≤ 1024 := by
    have h0 : (L 0).val < 2 := (L 0).isLt
    have h1 : (L 1).val < 16 := (L 1).isLt
    unfold base; omega
  intro i hi
  obtain ⟨j, -, rfl⟩ := Finset.mem_map.mp hi
  rw [xRow_emb L k j (ix2 (n0 := 1024) (n1 := 65536) ⟨base L + k.val, by omega⟩ (j 0)) rfl rfl]
  exact Finset.mem_filter.mpr ⟨Finset.mem_univ _, by show base L ≤ base L + k.val ∧ base L + k.val < base L + 32; omega⟩
/-- A trip writes to row `base L + k` only … -/
theorem oRow_mem (L : grid0.Coords) (k : Fin k0_t1_loop.trips) {i : S1024x32896.Idx} (hi : i ∈ (oRow L k).view.set) :
    (i 0).val = base L + k.val := by
  have hk : k.val < 32 := lt_of_lt_of_eq k.isLt trips_eq
  have hb : base L + 32 ≤ 1024 := by
    have h0 : (L 0).val < 2 := (L 0).isLt
    have h1 : (L 1).val < 16 := (L 1).isLt
    unfold base; omega
  obtain ⟨j, -, rfl⟩ := Finset.mem_map.mp hi
  rw [oRow_emb L k j (ix2 (n0 := 1024) (n1 := 32896) ⟨base L + k.val, by omega⟩ (j 0)) rfl rfl]
/-- … which is one of the subcore's. -/
theorem oRow_sub (L : grid0.Coords) (k : Fin k0_t1_loop.trips) : (oRow L k).view.set ⊆ oRows (base L) := by
  have hk : k.val < 32 := lt_of_lt_of_eq k.isLt trips_eq
  intro i hi
  have := oRow_mem L k hi
  exact Finset.mem_filter.mpr ⟨Finset.mem_univ _, by omega⟩

/-- The packed triangles of 1024 matrices that are given row after row, 65536 numbers each. -/
def packed {α : Type} (X : S1024x65536.Idx → α) : S1024x32896.Idx → α :=
  fun i =>
    have h := entry_of (p := (i 1).val) (i 1).isLt
    X (ix2 (n0 := 1024) (n1 := 65536) (i 0) ⟨256 * rowOf (i 1).val + colOf (i 1).val, by omega⟩)

/-- The result when the rows before row `b` have been written. -/
def upTo {α : Type} (b : ℕ) (X : S1024x65536.Idx → α) (M : S1024x32896.Idx → α) : S1024x32896.Idx → α :=
  fun i => if (i 0).val < b then packed X i else M i

/-- The first scratch buffer after the fetch: the row. -/
def fetched (L : grid0.Coords) (k : Fin k0_t1_loop.trips) (X : S1024x65536.Idx → Elt F .f32) (f : S65552.Idx → Elt F .f32) : S65552.Idx → Elt F .f32 :=
  sXin.view.write (Elt F) f ((xRow L k).view.read (Elt F) X) Finset.univ

/-- Its element `u` is the row's. -/
theorem fetched_apply (L : grid0.Coords) (k : Fin k0_t1_loop.trips) (X : S1024x65536.Idx → Elt F .f32) (f : S65552.Idx → Elt F .f32)
    (u : S65552.Idx) (i : S1024x65536.Idx) (h0 : (i 0).val = base L + k.val) (h1 : (i 1).val = (u 0).val) : fetched L k X f u = X i := by
  have hu : (u 0).val < 65536 := h1 ▸ (i 1).isLt
  have e : sXin.view.emb (fun a => ⟨(u 0).val, by obtain rfl : a = 0 := Subsingleton.elim (α := Fin 1) a 0; exact hu⟩ : S65536.Idx) = u := by
    funext a; obtain rfl : a = 0 := Subsingleton.elim (α := Fin 1) a 0
    apply Fin.ext
    show 0 + 1 * (u 0).val = _
    omega
  unfold fetched
  conv_lhs => rw [← e]
  rw [View.write_emb_of_mem _ _ (Finset.mem_univ _)]
  refine (cast_eq _ _).trans ((View.read_apply _ _).trans ((cast_eq _ _).trans ?_))
  rw [xRow_emb L k _ i h0 h1]

/-- Writing the packed triangle to a trip's row takes the result one row further. -/
theorem written (L : grid0.Coords) (k : Fin k0_t1_loop.trips) (X : S1024x65536.Idx → Elt F .f32) (M : S1024x32896.Idx → Elt F .f32)
    (f : S65552.Idx → Elt F .f32) (Y : S32912.Idx → Elt F .f32) (hY : Packed 32896 (fetched L k X f) Y) :
    (oRow L k).view.write (Elt F) (upTo (base L + k.val) X M) (sOout.view.read (Elt F) Y) Finset.univ = upTo (base L + (k.val + 1)) X M := by
  funext i
  by_cases h : (i 0).val = base L + k.val
  · have hp : (i 1).val < 32896 := (i 1).isLt
    obtain ⟨h1, h2, h3⟩ := entry_of hp
    have e := oRow_emb L k (fun a => ⟨(i 1).val, by obtain rfl : a = 0 := Subsingleton.elim (α := Fin 1) a 0; exact hp⟩) i h rfl
    conv_lhs => rw [← e]
    rw [View.write_emb_of_mem _ _ (Finset.mem_univ _)]
    refine (cast_eq _ _).trans ((View.read_apply _ _).trans ((cast_eq _ _).trans ?_))
    rw [upTo, if_pos (by omega)]
    have hu : 256 * rowOf (i 1).val + colOf (i 1).val < 65536 := by omega
    have hw : rowOf (i 1).val + 0 ≤ colOf (i 1).val := h1
    refine (hY _ _ h1 h2 (by omega) (fun a => ⟨256 * rowOf (i 1).val + colOf (i 1).val, by
      obtain rfl : a = 0 := Subsingleton.elim (α := Fin 1) a 0; show _ < 65552; omega⟩) _ rfl ?_).trans ?_
    · show 0 + 1 * (i 1).val = _
      omega
    · exact fetched_apply L k X f _ _ h rfl
  · rw [View.write_of_not_mem]
    · simp only [upTo]
      by_cases h' : (i 0).val < base L + k.val
      · rw [if_pos h', if_pos (by omega)]
      · rw [if_neg h', if_neg (by omega)]
    · exact fun hi => h (oRow_mem L k hi)

end Cert.Kernel.Run
end
-- ==== Proof.Task.lean ====
/-
  One vector subcore's task: 32 trips, each a row in, the copies, the packed row out.
-/
module

public import proofs.«01_k».proof.Proof.Rows

@[expose] public section

noncomputable section

namespace Cert.Kernel.Run

open Cert.Kernel Cert.Kernel.Gen Cert.Kernel.Copies Cert.Packing
open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- Rows of the argument at contents `X`, and of the result at `f`. -/
abbrev xPart (d : Dev nD) (S : Finset S1024x65536.Idx) (X : Buf (Elt F) (xLoc d)) : sProp 𝕄 := xLoc d ↦[S]{fullShare} X
/-- Rows of the result at contents `f`. -/
abbrev oPart (d : Dev nD) (S : Finset S1024x32896.Idx) (f : Buf (Elt F) (oLoc d)) : sProp 𝕄 := oLoc d ↦[S]{fullShare} f

/-- The subcore's two transfer semaphores. -/
abbrev inCell (d : Dev nD) (L : grid0.Coords) : GSem nD τ sig := (tl d L, .dma cc0_scoped0.sem)
/-- The semaphore of the copy out. -/
abbrev outCell (d : Dev nD) (L : grid0.Coords) : GSem nD τ sig := (tl d L, .dma cc0_scoped1.sem)

/-- The two semaphores are among the subcore's own. -/
theorem ownSems0_V (d : Dev nD) (L : grid0.Coords) :
    (ownSems0 (tl d L) : sProp 𝕄)
      = iprop(semVal (inCell d L) 0 ∗ semVal (outCell d L) 0 ∗ bigSep (((ownCells (tl d L)).erase (inCell d L)).erase (outCell d L)) fun g => semVal g 0) := by
  unfold SparseCore.Cfg.ownSems0
  rw [SparseCore.bigSep_erase' ((mem_ownCells (g := inCell d L)).mpr ⟨rfl, by
      show (SemLoc.dma cc0_scoped0.sem : SemLoc sig).isScoped .scVector = true; decide⟩),
    SparseCore.bigSep_erase' (Finset.mem_erase.mpr ⟨by simp [inCell, outCell]; decide, (mem_ownCells (g := outCell d L)).mpr ⟨rfl, by
      show (SemLoc.dma cc0_scoped1.sem : SemLoc sig).isScoped .scVector = true; decide⟩⟩)]

/-- The two scratch buffers are among the subcore's own. -/
theorem ownBufs_V (d : Dev nD) (L : grid0.Coords) :
    (ownBufs (tl d L) : sProp 𝕄)
      = iprop((∃ f, (tl d L).loc cc0_scratch0 ↦{fullShare} f) ∗ (∃ f, (tl d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- Before trip `k`: the subcore's rows of the argument unchanged, of the result the first `k` written, the scratch buffers
    at anything, both semaphores at zero, nothing but this task's own waits recorded. -/
def inv (d : Dev nD) (L : grid0.Coords) (X : Buf (Elt F) (xLoc d)) (M : Buf (Elt F) (oLoc d)) (O : CellTallies nD τ sig (HIx 1)) (W : Waits sig (HIx 1))
    (k : ℕ) (_ : PUnit) : sProp 𝕄 :=
  iprop(Transfers.MayWaits (tl d L) (none : HIx 1) O
    ∗ xPart d (xRows (base L)) X ∗ oPart d (oRows (base L)) (upTo (base L + k) X M)
    ∗ (∃ f, (tl d L).loc cc0_scratch0 ↦{fullShare} f) ∗ (∃ f, (tl d L).loc cc0_scratch1 ↦{fullShare} f)
    ∗ semVal (inCell d L) 0 ∗ semVal (outCell d L) 0
    ∗ ∃ W', ⌜∀ p ∈ W', p ∈ W ∨ p.2 = none⌝ ∗ owes (tl d L) O W')

variable [FloatOps F]

/-- One trip. -/
theorem trip_run (d : Dev nD) (L : grid0.Coords) (X : Buf (Elt F) (xLoc d)) (M : Buf (Elt F) (oLoc d)) (O : CellTallies nD τ sig (HIx 1)) (W : Waits sig (HIx 1))
    (k : Fin k0_t1_loop.trips) (u : PUnit) :
    inv d L X M O W k.val u ⊢ wp frame (wpE (defs₀ (F := F)) 𝒱₀ (tl d L) none) Set.univ
      (trip L xV oV sX sO cc0_scoped0 cc0_scoped1 k : PG F L PUnit) fun u' => inv d L X M O W (k.val + 1) u' := by
  unfold inv trip
  iintro ⟨#Hmw, Hx, Ho, ⟨%f, Hs⟩, ⟨%g, Hr⟩, Hin, Hout, %W', %hW', HO⟩
  ihave Hx' := (pointsTo_split_subset (ℓ := xLoc d) (q := fullShare) (f := X) (xRow_sub L k)).1 $$ Hx
  icases Hx' with ⟨Hrow, Hrest⟩
  iapply (Transfers.wp_dmaLocal countersEmb 𝒱₀ (tl d L) none (src := xRow L k) (dst := sXin) (fs := X) (fd := f)
    (Sd := (Finset.univ : Finset (Idx ((tl d L).loc cc0_scratch0)))) (none : HIx 1) _ rfl
    (View.amount_pos _ _ (show 0 < S65536.numel by decide)) (Finset.subset_univ _)) $$ [Hrow Hs Hin]
  · isplitl [Hrow]; · iexact Hrow
    isplitl [Hs]; · iexact Hs
    iexact Hin
  iintro Hfl
  ihave Hmw1 := (Transfers.MayWaits.elim (SemLoc.dma cc0_scoped0.sem)) $$ Hmw
  iapply (Transfers.wp_waitLocalO countersEmb 𝒱₀ (tl d L) none (none : HIx 1) rfl) $$ [Hfl HO Hmw1]
  · isplitl [Hfl]; · iexact Hfl
    isplitl [HO]; · iexact HO
    iexact Hmw1
  iintro ⟨⟨Hs, Hrow⟩, Hin, HO⟩
  ihave Hx := (pointsTo_split_subset (ℓ := xLoc d) (q := fullShare) (f := X) (xRow_sub L k)).2 $$ [Hrow Hrest]
  · isplitl [Hrow] <;> iassumption
  iapply (wp_copies d L _ _ (fetched L k X f) 2176 0 0 ends_all g (fun _ _ _ _ h => absurd h (Nat.not_lt_zero _)))
  isplitl [Hs]; · iexact Hs
  isplitl [Hr]; · iexact Hr
  iintro %Y %hY Hs Hr
  ihave Hr' := (pointsTo_split_subset (ℓ := (tl d L).loc cc0_scratch1) (q := fullShare) (f := Y) (Finset.subset_univ sOout.view.set)).1 $$ Hr
  icases Hr' with ⟨Hpart, Hrest⟩
  iapply (Transfers.wp_dmaLocal countersEmb 𝒱₀ (tl d L) none (src := sOout) (dst := oRow L k) (fs := Y) (fd := upTo (base L + k.val) X M)
    (Sd := oRows (base L)) (none : HIx 1) _ rfl
    (View.amount_pos _ _ (show 0 < S32896.numel by decide)) (oRow_sub L k)) $$ [Hpart Ho Hout]
  · isplitl [Hpart]; · iexact Hpart
    isplitl [Ho]; · iexact Ho
    iexact Hout
  iintro Hfl
  ihave Hmw2 := (Transfers.MayWaits.elim (SemLoc.dma cc0_scoped1.sem)) $$ Hmw
  iapply (Transfers.wp_waitLocalO countersEmb 𝒱₀ (tl d L) none (none : HIx 1) rfl) $$ [Hfl HO Hmw2]
  · isplitl [Hfl]; · iexact Hfl
    isplitl [HO]; · iexact HO
    iexact Hmw2
  iintro ⟨⟨Ho, Hpart⟩, Hout, HO⟩
  ihave Hr := (pointsTo_split_subset (ℓ := (tl d L).loc cc0_scratch1) (q := fullShare) (f := Y) (Finset.subset_univ sOout.view.set)).2 $$ [Hpart Hrest]
  · isplitl [Hpart] <;> iassumption
  rw [wp_ret]; imodintro
  isplitr; · iexact Hmw
  isplitl [Hx]; · iexact Hx
  isplitl [Ho]
  · rw [← written L k X M f Y hY]; iexact Ho
  isplitl [Hs]; · iexists _; iexact Hs
  isplitl [Hr]; · iexists _; iexact Hr
  isplitl [Hin]; · iexact Hin
  isplitl [Hout]; · iexact Hout
  iexists _; isplitr; rotate_left
  · iexact HO
  · ipureintro; intro p hp
    rcases Finset.mem_insert.mp hp with hp | hp
    · exact .inr (hp ▸ rfl)
    rcases Finset.mem_insert.mp hp with hp | hp
    · exact .inr (hp ▸ rfl)
    · exact hW' p hp

attribute [local irreducible] trip

/-- Rows the result is still to be written to hold what they held; after the last trip all of them are written. -/
theorem upTo_first (L : grid0.Coords) (X : S1024x65536.Idx → Elt F .f32) (M : S1024x32896.Idx → Elt F .f32) :
    ∀ i ∈ oRows (base L), upTo (base L + 0) X M i = M i :=
  fun _ hi => if_neg (by have := (Finset.mem_filter.mp hi).2; omega)
/-- After the last trip all of the subcore's rows are written. -/
theorem upTo_last (L : grid0.Coords) (X : S1024x65536.Idx → Elt F .f32) (M : S1024x32896.Idx → Elt F .f32) :
    ∀ i ∈ oRows (base L), upTo (base L + k0_t1_loop.trips) X M i = packed X i :=
  fun _ hi => if_pos (by have := (Finset.mem_filter.mp hi).2; rw [trips_eq]; omega)

/-- The task: the subcore's 32 rows of the result become the packed triangles of its 32 rows of the argument. -/
theorem task_run (hF : (K (F := F)).Facts) (d : Dev nD) (L : grid0.Coords) (X : Buf (Elt F) (xLoc d)) (M : Buf (Elt F) (oLoc d))
    (O : CellTallies nD τ sig (HIx 1)) (W : Waits sig (HIx 1)) (hO : ∀ g, O g none = 0) :
    iprop(levAts (K (F := F)).L (K (F := F)).lev ∗ emp
        ∗ (xPart d (xRows (base L)) X ∗ oPart d (oRows (base L)) M)
        ∗ scopedBufs (tl d L) ∗ scopedSems0 (tl d L) ∗ owes (tl d L) O W)
      ⊢ wp frame (wpE (defs₀ (F := F)) 𝒱₀ (tl d L) none) Set.univ
          (cc0__body L xV (Memref.isWhole_whole _) oV (Memref.isWhole_whole _) sX (Memref.isWhole_whole _) sO (Memref.isWhole_whole _) cc0_scoped0 cc0_scoped1)
          fun _ => iprop((xPart d (xRows (base L)) X ∗ oPart d (oRows (base L)) (packed X))
            ∗ scopedBufs (tl d L) ∗ scopedSems0 (tl d L) ∗ ∃ W', ⌜∀ p ∈ W', p ∈ W ∨ p.2 = none⌝ ∗ owes (tl d L) O W') := by
  rw [body_eq, (K (F := F)).scopedBufs_V hF d (cV L) (jV L), SparseCore.Cfg.scopedSems0_V (Val := Elt F) d (cV L) (jV L), ownSems0_V, ownBufs_V]
  iintro ⟨#Hlv, -, ⟨Hx, Ho⟩, ⟨Hs, Hr, Hbufs⟩, ⟨Hin, Hout, Hsems⟩, HO⟩
  ihave Hmw := ((K (F := F)).mayWaits_none (thr := tl d L) hO) $$ Hlv
  ihave Ho := (Entails.of_eq (pointsTo_congr (upTo_first L X M)).symm) $$ Ho
  iapply (Scf.wp_for_bind frame (wpE (defs₀ (F := F)) 𝒱₀ (tl d L) none) Set.univ k0_t1_loop.lb k0_t1_loop.ub k0_t1_loop.st k0_t1_ok (⟨⟩ : PUnit)
    (fun k _ => trip L xV oV sX sO cc0_scoped0 cc0_scoped1 k) (inv d L X M O W) (trip_run d L X M O W)) $$ [Hmw Hx Ho Hs Hr Hin Hout HO]
  · unfold inv
    isplitl [Hmw]; · iexact Hmw
    isplitl [Hx]; · iexact Hx
    isplitl [Ho]; · iexact Ho
    isplitl [Hs]; · iexact Hs
    isplitl [Hr]; · iexact Hr
    isplitl [Hin]; · iexact Hin
    isplitl [Hout]; · iexact Hout
    iexists W; isplitr
    · ipureintro; exact fun p hp => .inl hp
    · iexact HO
  iintro %_ HI
  unfold inv
  icases HI with ⟨-, Hx, Ho, Hs, Hr, Hin, Hout, HW⟩
  ihave Ho := (Entails.of_eq (pointsTo_congr (upTo_last L X M))) $$ Ho
  rw [wp_pure]; imodintro
  isplitl [Hx Ho]
  · isplitl [Hx] <;> iassumption
  isplitl [Hs Hr Hbufs]
  · isplitl [Hs]; · iexact Hs
    isplitl [Hr]; · iexact Hr
    iexact Hbufs
  isplitl [Hin Hout Hsems]
  · isplitl [Hin]; · iexact Hin
    isplitl [Hout]; · iexact Hout
    iexact Hsems
  iexact HW

end Cert.Kernel.Run
end
-- ==== Proof.Launch.lean ====
/-
  The launch: the host lays the matrices out row after row, the two SparseCores' 32 vector subcores take 32 rows each, and
  the result is the packed triangle of every matrix.
-/
module

public import proofs.«01_k».proof.Proof.Task

@[expose] public section

noncomputable section

namespace Cert.Kernel.Run

open Cert.Kernel Cert.Kernel.Gen Cert.Packing
open Idealize.ShloMosaic
open Idealize.ShloMosaic.SparseCore (S V T)
open Idealize.ShloMosaic.SparseCore.Cfg (HIx Pay)
open Idealize.ShloMosaic.StableHlo (held wp_hlo_within)
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The rows of the SparseCores and of their subcores -/

/-- The first row of subcore `s` of SparseCore `c`. -/
abbrev at_ (c s : ℕ) : ℕ := 64 * s + 32 * c

/-- A SparseCore's rows: its subcores'. -/
def xCore (c : ℕ) : Finset S1024x65536.Idx := (Finset.univ : Finset (Fin 16)).biUnion fun s => xRows (at_ c s.val)
/-- Its rows of the result. -/
def oCore (c : ℕ) : Finset S1024x32896.Idx := (Finset.univ : Finset (Fin 16)).biUnion fun s => oRows (at_ c s.val)

/-- Runs of 32 rows that start 32 apart have no row in common, in the argument's rows … -/
theorem xRows_disjoint {a b : ℕ} (h : a + 32 ≤ b ∨ b + 32 ≤ a) : Disjoint (xRows a) (xRows b) :=
  Finset.disjoint_left.mpr fun i h1 h2 => by
    have := (Finset.mem_filter.mp h1).2; have := (Finset.mem_filter.mp h2).2; omega
/-- … or in the result. -/
theorem oRows_disjoint {a b : ℕ} (h : a + 32 ≤ b ∨ b + 32 ≤ a) : Disjoint (oRows a) (oRows b) :=
  Finset.disjoint_left.mpr fun i h1 h2 => by
    have := (Finset.mem_filter.mp h1).2; have := (Finset.mem_filter.mp h2).2; omega

/-- Two subcores of a SparseCore have no row in common … -/
theorem xSub_disjoint (c : ℕ) : ∀ s ∈ (Finset.univ : Finset (Fin 16)), ∀ s' ∈ (Finset.univ : Finset (Fin 16)), s ≠ s' →
    Disjoint (xRows (at_ c s.val)) (xRows (at_ c s'.val)) :=
  fun s _ s' _ h => xRows_disjoint (by have : s.val ≠ s'.val := fun e => h (Fin.ext e); simp only [at_]; omega)
/-- … in the result either … -/
theorem oSub_disjoint (c : ℕ) : ∀ s ∈ (Finset.univ : Finset (Fin 16)), ∀ s' ∈ (Finset.univ : Finset (Fin 16)), s ≠ s' →
    Disjoint (oRows (at_ c s.val)) (oRows (at_ c s'.val)) :=
  fun s _ s' _ h => oRows_disjoint (by have : s.val ≠ s'.val := fun e => h (Fin.ext e); simp only [at_]; omega)

/-- … nor have the two SparseCores … -/
theorem xCore_disjoint : ∀ c ∈ (Finset.univ : Finset (Fin 2)), ∀ c' ∈ (Finset.univ : Finset (Fin 2)), c ≠ c' → Disjoint (xCore c.val) (xCore c'.val) :=
  fun c _ c' _ h => (Finset.disjoint_biUnion_left _ _ _).mpr fun s _ => (Finset.disjoint_biUnion_right _ _ _).mpr fun s' _ =>
    xRows_disjoint (by have : c.val ≠ c'.val := fun e => h (Fin.ext e); simp only [at_]; omega)
/-- … in the result either … -/
theorem oCore_disjoint : ∀ c ∈ (Finset.univ : Finset (Fin 2)), ∀ c' ∈ (Finset.univ : Finset (Fin 2)), c ≠ c' → Disjoint (oCore c.val) (oCore c'.val) :=
  fun c _ c' _ h => (Finset.disjoint_biUnion_left _ _ _).mpr fun s _ => (Finset.disjoint_biUnion_right _ _ _).mpr fun s' _ =>
    oRows_disjoint (by have : c.val ≠ c'.val := fun e => h (Fin.ext e); simp only [at_]; omega)

/-- … and every row is some subcore's. -/
theorem xCore_cover : (Finset.univ : Finset (Fin 2)).biUnion (fun c => xCore c.val) = Finset.univ :=
  Finset.eq_univ_iff_forall.mpr fun i => Finset.mem_biUnion.mpr ⟨⟨(i 0).val / 32 % 2, by omega⟩, Finset.mem_univ _,
    Finset.mem_biUnion.mpr ⟨⟨(i 0).val / 64, by have : (i 0).val < 1024 := (i 0).isLt; omega⟩, Finset.mem_univ _,
      Finset.mem_filter.mpr ⟨Finset.mem_univ _, by simp only [at_]; omega⟩⟩⟩
/-- The same of the result. -/
theorem oCore_cover : (Finset.univ : Finset (Fin 2)).biUnion (fun c => oCore c.val) = Finset.univ :=
  Finset.eq_univ_iff_forall.mpr fun i => Finset.mem_biUnion.mpr ⟨⟨(i 0).val / 32 % 2, by omega⟩, Finset.mem_univ _,
    Finset.mem_biUnion.mpr ⟨⟨(i 0).val / 64, by have : (i 0).val < 1024 := (i 0).isLt; omega⟩, Finset.mem_univ _,
      Finset.mem_filter.mpr ⟨Finset.mem_univ _, by simp only [at_]; omega⟩⟩⟩

/-- An array is its SparseCores' parts, and a SparseCore's part its subcores'. -/
theorem xWhole (d : Dev nD) (X : Buf (Elt F) (xLoc d)) :
    (xLoc d ↦{fullShare} X : sProp 𝕄) = bigSep Finset.univ fun c : Fin 2 => xPart d (xCore c.val) X := by
  rw [← pointsTo_biUnion Finset.univ (ℓ := xLoc d) (fun c : Fin 2 => xCore c.val) xCore_disjoint, xCore_cover]
/-- The same of the result. -/
theorem oWhole (d : Dev nD) (f : Buf (Elt F) (oLoc d)) :
    (oLoc d ↦{fullShare} f : sProp 𝕄) = bigSep Finset.univ fun c : Fin 2 => oPart d (oCore c.val) f := by
  rw [← pointsTo_biUnion Finset.univ (ℓ := oLoc d) (fun c : Fin 2 => oCore c.val) oCore_disjoint, oCore_cover]
/-- A SparseCore's part of the argument's rows is its subcores' … -/
theorem xPart_core (d : Dev nD) (c : ℕ) (X : Buf (Elt F) (xLoc d)) :
    (xPart d (xCore c) X : sProp 𝕄) = bigSep Finset.univ fun s : Fin 16 => xPart d (xRows (at_ c s.val)) X :=
  pointsTo_biUnion Finset.univ (ℓ := xLoc d) (fun s : Fin 16 => xRows (at_ c s.val)) (xSub_disjoint c)
/-- … and of the result likewise. -/
theorem oPart_core (d : Dev nD) (c : ℕ) (f : Buf (Elt F) (oLoc d)) :
    (oPart d (oCore c) f : sProp 𝕄) = bigSep Finset.univ fun s : Fin 16 => oPart d (oRows (at_ c s.val)) f :=
  pointsTo_biUnion Finset.univ (ℓ := oLoc d) (fun s : Fin 16 => oRows (at_ c s.val)) (oSub_disjoint c)

/-! ## What the call hands out and takes back -/

variable [FloatOps F]
variable (m : (ℓ : Loc nD τ sig) → Buf (Elt F) ℓ) (ρ : Dev nD → PrngReg)

/-- The argument among the host's arrays … -/
abbrev a' : DevRef τ sig := Proc.devRef .tc (main_arg0 : Ref sig .tc)
/-- … the argument as 1024 rows … -/
abbrev x' : DevRef τ sig := Proc.devRef .tc (main_v0 : Ref sig .tc)
/-- … and the result. -/
abbrev o' : DevRef τ sig := Proc.devRef .tc (main_v1 : Ref sig .tc)

/-- The host's re-layout of the argument. -/
abbrev lay : HloOp τ sig (Elt F) := StableHlo.reshape main_arg0 main_v0 (rfl : (.f32 : EltTy) = .f32) Shapes1.Facts₀.shapeCasts_S1024x256x256_S1024x65536

/-- The launch's contents of the host's arrays, and the argument laid out row after row. -/
def V0 (d : Dev nD) : Valuation τ sig (Elt F) := fun b => m (d, b)
/-- The argument laid out row after row. -/
def rows (d : Dev nD) : Buf (Elt F) (xLoc d) := (lay (F := F)).result (V0 m d) x'

/-- A SparseCore is handed its rows of both arrays, a subcore its 32; they come back with the packed triangles. -/
def P : (K (F := F)).Pay (nD := nD) (Val := Elt F) (Name := ℕ) (U := UU) where
  st := fun _ d c => iprop(xPart d (xCore c.val) (rows m d) ∗ oPart d (oCore c.val) (m (oLoc d)))
  dn := fun _ d c => iprop(xPart d (xCore c.val) (rows m d) ∗ oPart d (oCore c.val) (packed (rows m d)))
  go := fun _ d c s => iprop(xPart d (xRows (at_ c.val s.val)) (rows m d) ∗ oPart d (oRows (at_ c.val s.val)) (m (oLoc d)))
  td := fun _ d c s => iprop(xPart d (xRows (at_ c.val s.val)) (rows m d) ∗ oPart d (oRows (at_ c.val s.val)) (packed (rows m d)))
  x := fun _ _ => iprop(emp)

/-- What is handed over may be kept while the call runs. -/
instance P_storable : (P (F := F) m).IsStorable where
  st _ d c := by unfold P; infer_instance
  dn _ d c := by unfold P; infer_instance
  go _ _ _ _ := by unfold P; infer_instance
  td _ _ _ _ := by unfold P; infer_instance

/-! ## The subcores' obligation -/

/-- The coordinates of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- What a subcore runs is the kernel's body at its coordinates. -/
theorem defs₀_vector (c : Fin τ.nSC) (s : Fin τ.nSub) :
    defs₀ (F := F) (.scVector c s) 0 ()
      = SparseCore.onTile hcore0 hsub0 (fun c s => cc0__body (coordsV c s)
          xV (Memref.isWhole_whole _) oV (Memref.isWhole_whole _) sX (Memref.isWhole_whole _) sO (Memref.isWhole_whole _) cc0_scoped0 cc0_scoped1) ⟨⟩ c s := rfl

omit [FloatOps F] in
/-- The task's waits are among those that the call allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every subcore does what the call asks of it. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (task_run hF d (coordsV ⟨_, hc.1⟩ ⟨_, hc.2⟩) (rows m d) (m (oLoc d)) O W hO).trans (wp_mono frame _ _ fun _ => obl_post)

/-- A SparseCore's part is dealt to its subcores and gathered from them. -/
theorem vecSplit : (K (F := F)).VecSplit' (P m) 0 := by
  intro d c
  show iprop(xPart d (xCore c.val) (rows m d) ∗ oPart d (oCore c.val) (m (oLoc d))) ⊢ |={Set.univ}=> iprop(
      (bigSep Finset.univ fun s : Fin 16 => iprop(xPart d (xRows (at_ c.val s.val)) (rows m d) ∗ oPart d (oRows (at_ c.val s.val)) (m (oLoc d))))
      ∗ ((bigSep Finset.univ fun s : Fin 16 => iprop(xPart d (xRows (at_ c.val s.val)) (rows m d) ∗ oPart d (oRows (at_ c.val s.val)) (packed (rows m d))))
          -∗ iprop(xPart d (xCore c.val) (rows m d) ∗ oPart d (oCore c.val) (packed (rows m d)))))
  rw [bigSep_sep', bigSep_sep', xPart_core, oPart_core, oPart_core]
  iintro H; imodintro
  isplitl [H]; · iexact H
  iintro H; iexact H

/-! ## The host -/

/-- The ghost state at the start: the handshakes' cells, and no transfer. -/
def u₀ : UU := (initOf (K (F := F)).hsCells (K (F := F)).hsToks, 1)

omit [FloatOps F] in
/-- Nothing, many times, is nothing. -/
theorem bigSep_emp' {I : Type} (s : Finset I) : (bigSep s fun _ => iprop(emp)) = (iprop(emp) : sProp 𝕄) := bigSep_emp_const s

/-- It gives the handshakes their start, and the threads need no more. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- The host's three arrays. -/
abbrev S3 : Finset (DevRef τ sig) := {a', x', o'}

omit [FloatOps F] in
/-- Holding the three arrays is holding each. -/
theorem held_S3 (d : Dev nD) (W : Valuation τ sig (Elt F)) :
    (held (T d) S3 W : sProp 𝕄) = iprop((aLoc d ↦{fullShare} W a') ∗ (xLoc d ↦{fullShare} W x') ∗ oLoc d ↦{fullShare} W o') := by
  unfold held S3
  rw [SparseCore.bigSep_insert' (by decide), SparseCore.bigSep_insert' (by decide), bigSep_singleton]

/-- The host starts out holding its three arrays. -/
theorem unscoped_held (d : Dev nD) : (unscopedBufs d (fun b => m ((SparseCore.T d).loc b)) : sProp 𝕄) = held (T d) S3 (V0 m d) := by
  rw [held_S3]
  unfold unscopedBufs
  rw [show (Finset.univ.filter fun b : Ref sig .tc => ¬ b.isScoped) = {main_arg0, main_v0, main_v1} by decide,
    SparseCore.bigSep_insert' (by decide), SparseCore.bigSep_insert' (by decide), bigSep_singleton]
  rfl

/-- After the re-layout it holds the argument as it was, the rows, and the result as it was. -/
theorem held_laid (d : Dev nD) :
    (held (T d) S3 ((lay (F := F)).result (V0 m d)) : sProp 𝕄)
      = iprop((aLoc d ↦{fullShare} m (aLoc d)) ∗ (xLoc d ↦{fullShare} rows m d) ∗ oLoc d ↦{fullShare} m (oLoc d)) := by
  rw [held_S3, (lay (F := F)).result_of_not_mem (V0 m d) (b := a') (show a' ∉ ({x'} : Finset (DevRef τ sig)) by decide),
    (lay (F := F)).result_of_not_mem (V0 m d) (b := o') (show o' ∉ ({x'} : Finset (DevRef τ sig)) by decide)]
  rfl

/-- The re-layout touches the three arrays only. -/
theorem hLay : (lay (F := F)).bufs ⊆ S3 := show ({a', x'} : Finset (DevRef τ sig)) ⊆ S3 by decide

/-- What the SparseCores are handed together: the rows and the result. -/
theorem st_eq (d : Dev nD) : (bigSep Finset.univ fun c : Fin ((K (F := F)).nCore 0) => (P m).st 0 d c)
    = iprop((xLoc d ↦{fullShare} rows m d) ∗ oLoc d ↦{fullShare} m (oLoc d)) := by
  rw [xWhole, oWhole, ← bigSep_sep']; rfl
/-- What they hand back together: the rows, and the result at the packed triangles. -/
theorem dn_eq (d : Dev nD) : (bigSep Finset.univ fun c : Fin ((K (F := F)).nCore 0) => (P m).dn 0 d c)
    = iprop((xLoc d ↦{fullShare} rows m d) ∗ oLoc d ↦{fullShare} packed (rows m d)) := by
  rw [xWhole, oWhole, ← bigSep_sep']; rfl

/-- What the host is left with: the argument unchanged and the result at the packed triangles. -/
abbrev FIN (d : Dev nD) : sProp 𝕄 := iprop((aLoc d ↦{fullShare} m (aLoc d)) ∗ oLoc d ↦{fullShare} packed (rows m d))

/-- The host's program. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := lay) (S := S3) hLay (V := V0 m d)) $$ [Hb Hheld]
  · isplitl [Hb] <;> iassumption
  iintro ⟨Hb, Hheld⟩
  ihave Hh := (Entails.of_eq (held_laid (F := F) m d)) $$ Hheld
  icases Hh with ⟨Ha, Hx, Ho⟩
  rw [wp_ret]; imodintro
  iapply ((K (F := F)).wp_run (D (F := F)) 𝒱 (EH := EH) (P := P m) κ d 0) $$ [Hst Hx Ho Ha Hb Hts]
  isplitr; · iexact Hctx
  isplitl [Hst]; · iexact Hst
  isplitl [Hx Ho]
  · rw [st_eq]
    isplitl [Hx] <;> iassumption
  iintro ⟨Hst, Hdn⟩
  ihave Hdn' := (Entails.of_eq (dn_eq m d)) $$ Hdn
  icases Hdn' with ⟨-, Ho⟩
  imodintro
  isplitl [Hst]; · iexact Hst
  isplitr [Hb Hts]
  · isplitl [Ha] <;> iassumption
  isplitl [Hb] <;> iassumption

/-- What a final memory is read for. -/
def fq (d : Dev nD) (s' : Phys nD τ sig (Elt F)) : Prop := s'.mem.mem (aLoc d) = m (aLoc d) ∧ s'.mem.mem (oLoc d) = packed (rows m d)

/-- What the host is left with is so in the final memory. -/
theorem hfin (d : Dev nD) (s' : Phys nD τ sig (Elt F)) : iprop(FIN m d ∗ SI s') ⊢ (⌜fq m d s'⌝ : sProp 𝕄) := by
  iintro ⟨⟨Ha, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := oLoc d) (I := Finset.univ) (q := fullShare) (f := packed (rows m d))) $$ [HSI Ho]
  · isplitl [HSI] <;> iassumption
  icases H with %h2
  ipureintro; exact ⟨funext fun i => h1 i (Finset.mem_univ i), funext fun i => h2 i (Finset.mem_univ i)⟩

/-! ## The run -/

/-- The packed triangles of the rows laid out are the packed triangles of the argument's matrices. -/
theorem packed_rows (d : Dev nD) : packed (rows m d) = (upper (m (aLoc d) : S1024x256x256.Idx → Elt F .f32) : S1024x32896.Idx → Elt F .f32) := by
  have e : rows m d = shapeCast S1024x65536 (m (aLoc d) : S1024x256x256.Idx → Elt F .f32) Shapes1.Facts₀.shapeCasts_S1024x256x256_S1024x65536 :=
    StableHlo.reshape_result' _ _ _ _ _
  rw [e]
  funext i
  have h := entry_of (p := (i 1).val) (i 1).isLt
  refine congrArg (m (aLoc d) : S1024x256x256.Idx → Elt F .f32) (Shape.reshapeEquiv_eq_of_rowMajor _ ?_)
  refine (Shape.rowMajor_val_three _).trans ((?_ : _ = _).trans (Shape.rowMajor_val_two _).symm)
  show ((i 0).val * 256 + rowOf (i 1).val) * 256 + colOf (i 1).val = (i 0).val * 65536 + (256 * rowOf (i 1).val + colOf (i 1).val)
  omega

/-- Every run ends, with the argument unchanged, the result at the packed triangles and all counters at zero. -/
theorem run_main [∀ e, Nonempty (Elt F e)] : θ_run (Cert.Kernel.defs (F := F)) (Cert.Kernel.threads (F := F)) ⟨m, fun _ => 0, ρ⟩
    fun r => (∀ d : Dev nD, r.2.mem (aLoc d) = m (aLoc d) ∧ r.2.mem (oLoc d) = packed (rows m d)) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h hz => ⟨h, hz⟩)

end Cert.Kernel.Run
end
-- ==== Proof.Same.lean ====
/-
  The idealized kernel is the kernel's own text: no operation was rewritten. So its threads and its body table are the
  kernel's at any float values, and the kernel's run is its run.
-/
module

public import proofs.«01_k».proof.Proof.Launch
public import proofs.«01_k».proof.Proof.Gen.KernelIdeal

@[expose] public section

set_option maxRecDepth 10000000
set_option maxHeartbeats 40000000

noncomputable section

namespace Cert.KernelIdeal.Run

open Idealize.ShloMosaic Idealize.SL.Sem Cert.Packing

variable {F : FTy → Type} [FloatOps F]

/-- The two programs declare the same memory … -/
theorem sig_eq : Cert.KernelIdeal.sig = Cert.Kernel.sig := rfl

/-- … run the same threads … -/
theorem threads_eq : Cert.KernelIdeal.threads (F := F) = Cert.Kernel.threads (F := F) := rfl

/-- … and have the same bodies. -/
theorem defs_eq : Cert.KernelIdeal.defs (F := F) = Cert.Kernel.defs (F := F) := rfl

open Cert.KernelIdeal in
/-- Every run of the idealized kernel ends with its result the packed triangles, the argument unchanged and all counters
    at zero. -/
theorem run_main [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩ fun r => (∀ c : Dev nD,
      r.2.mem ((c.tc : Thread nD τ).loc main_v1)
          = (upper (m ((c.tc : Thread nD τ).loc main_arg0) : S1024x256x256.Idx → Elt F .f32) : S1024x32896.Idx → Elt F .f32)
      ∧ r.2.mem ((c.tc : Thread nD τ).loc main_arg0) = m ((c.tc : Thread nD τ).loc main_arg0)) ∧ r.2.sem = fun _ => 0 := by
  rw [threads_eq, defs_eq]
  exact (θ_run (Cert.Kernel.defs (F := F)) _ _).mono
    (fun _ h => ⟨fun c => ⟨(h.1 c).2.trans (Cert.Kernel.Run.packed_rows m c), (h.1 c).1⟩, h.2⟩)
    (Cert.Kernel.Run.run_main m ρ)

end Cert.KernelIdeal.Run

end
-- ==== Proof.Tables.lean ====
/-
  The reference's two index tables. It gathers each matrix's entries at rows and columns it reads from two tables of
  32896 words. Here: position `p`'s words in the two tables are the row and the column of the upper triangle's entry
  whose packed position is `p`. The tables are checked word by word, in nine parts.
-/
module

public import proofs.«01_k».proof.ReferenceIdeal
public import proofs.«01_k».proof.Proof.Packing

@[expose] public section

set_option maxRecDepth 100000
-- the parts are checked one after another
set_option Elab.async false

namespace Cert.Tables

open Cert.ReferenceIdeal Cert.Packing

/-- The tables' words at position `p` are the row and the column of the upper triangle's entry there. -/
abbrev Good (p : ℕ) : Prop :=
  (lit0t p).toNat ≤ (lit1t p).toNat ∧ (lit1t p).toNat < 256 ∧ off (lit0t p).toNat + ((lit1t p).toNat - (lit0t p).toNat) = p

/-- They are at the `n` runs of 128 positions that start with run `k`. -/
abbrev Part (k n : ℕ) : Prop := ∀ a : Fin n, ∀ b : Fin 128, Good (128 * (k + a.val) + b.val)

/-! The tables are checked a part at a time, from the first run to the last. -/

/-- Runs 0 to 31. -/
theorem part0 : Part 0 32 := by decide +kernel
/-- Runs 32 to 63. -/
theorem part1 : Part 32 32 := by decide +kernel
/-- Runs 64 to 95. -/
theorem part2 : Part 64 32 := by decide +kernel
/-- Runs 96 to 127. -/
theorem part3 : Part 96 32 := by decide +kernel
/-- Runs 128 to 159. -/
theorem part4 : Part 128 32 := by decide +kernel
/-- Runs 160 to 191. -/
theorem part5 : Part 160 32 := by decide +kernel
/-- Runs 192 to 223. -/
theorem part6 : Part 192 32 := by decide +kernel
/-- Runs 224 to 255. -/
theorem part7 : Part 224 32 := by decide +kernel
/-- The last run. -/
theorem part8 : Part 256 1 := by decide +kernel

/-- A position in one of a part's runs is a good one. -/
theorem good_of {k n p : ℕ} (h : Part k n) (h1 : k ≤ p / 128) (h2 : p / 128 < k + n) : Good p := by
  have := h ⟨p / 128 - k, by omega⟩ ⟨p % 128, Nat.mod_lt _ (by omega)⟩
  have e : 128 * (k + (p / 128 - k)) + p % 128 = p := by omega
  rwa [show 128 * (k + (⟨p / 128 - k, by omega⟩ : Fin n).val) + (⟨p % 128, Nat.mod_lt _ (by omega)⟩ : Fin 128).val = p from e] at this

/-- Every position is a good one. -/
theorem good {p : ℕ} (hp : p < 32896) : Good p := by
  rcases Nat.lt_or_ge (p / 128) 32 with h | h
  · exact good_of part0 (by omega) (by omega)
  rcases Nat.lt_or_ge (p / 128) 64 with h | h
  · exact good_of part1 (by omega) (by omega)
  rcases Nat.lt_or_ge (p / 128) 96 with h | h
  · exact good_of part2 (by omega) (by omega)
  rcases Nat.lt_or_ge (p / 128) 128 with h | h
  · exact good_of part3 (by omega) (by omega)
  rcases Nat.lt_or_ge (p / 128) 160 with h | h
  · exact good_of part4 (by omega) (by omega)
  rcases Nat.lt_or_ge (p / 128) 192 with h | h
  · exact good_of part5 (by omega) (by omega)
  rcases Nat.lt_or_ge (p / 128) 224 with h | h
  · exact good_of part6 (by omega) (by omega)
  rcases Nat.lt_or_ge (p / 128) 256 with h | h
  · exact good_of part7 (by omega) (by omega)
  · exact good_of part8 (by omega) (by omega)

/-- The tables' words at position `p` are the row and the column of the entry packed there. -/
theorem tables {p : ℕ} (hp : p < 32896) : (lit0t p).toNat = rowOf p ∧ (lit1t p).toNat = colOf p := by
  obtain ⟨h1, h2, h3⟩ := good hp
  obtain ⟨h4, h5, h6⟩ := entry_of hp
  exact entry_unique h1 h2 h4 h5 (h3.trans h6.symm)

end Cert.Tables
-- ==== Proof.Reference.lean ====
/-
  The reference: it gathers, from every matrix, the entries at the rows and columns its two tables list. Here: its run
  ends with the packed triangles as its result, its argument as it was, and no counter to be other than zero.
-/
module

public import proofs.«01_k».proof.Proof.Gen.ReferenceIdeal.Run
public import proofs.«01_k».proof.Proof.Tables
public import Idealize.ShloMosaic.Lib.ValueIdxCore
public import Idealize.ShloMosaic.Lib.WordCmp
public import Idealize.ShloMosaic.Lib.Quiescent
public import Idealize.ShloMosaic.Lib.Pipeline.Value

@[expose] public section

noncomputable section

namespace Cert.ReferenceIdeal.Run

open Cert.ReferenceIdeal Cert.ReferenceIdeal.Gen Cert.Packing
open Idealize.ShloMosaic Idealize.SL.Sem
open Idealize.ShloMosaic.ValueIdx (ix1 ix2 ix3)

/-- The gather's dimension numbers. -/
local notation "G" => gather_S1024x256x256_S32896x2_S1024x32896_0_12_n_n_12_1_102411

/-- THE GATHER READ AT AN INDEX: the matrix's entry at the row and the column that the index pairs list at the
    position, each read signed and kept within the matrix. -/
theorem gather_apply {α : Type} (x : S1024x256x256.Idx → α) (idx : IVec S32896x2 32) (j : S1024x32896.Idx) :
    Host.gather G x idx j
      = x (ix3 (n0 := 1024) (n1 := 256) (n2 := 256) (j 0) ⟨min (idx (ix2 (n0 := 32896) (n1 := 2) (j 1) 0)).toInt.toNat 255, by omega⟩
          ⟨min (idx (ix2 (n0 := 32896) (n1 := 2) (j 1) 1)).toInt.toNat 255, by omega⟩) := by
  unfold Host.gather
  congr 1
  funext a
  refine Fin.ext ?_
  show GatherDims.start G j idx a + GatherDims.batchCoord G j a + GatherDims.offCoord G j a = _
  rw [GatherDims.batchCoord_eq_zero _ _ _ List.not_mem_nil, Nat.add_zero]
  match a with
  | ⟨0, _⟩ =>
    have hs : GatherDims.start G j idx (0 : Fin 3) = 0 := by
      unfold GatherDims.start
      exact dif_neg (by decide : (0 : Fin 3) ∉ [1, 2])
    refine (congrArg (· + _) hs).trans ((Nat.zero_add _).trans ?_)
    unfold GatherDims.offCoord
    refine (dif_pos ((GatherDims.mem_sKept _ _).mpr ⟨(by decide : (0 : Fin 3) ∉ [1, 2]), List.not_mem_nil⟩)).trans ?_
    rfl
  | ⟨1, _⟩ =>
    refine (congrArg (_ + ·) (GatherDims.offCoord_eq_zero G j (1 : Fin 3)
      (fun h => ((GatherDims.mem_sKept _ _).mp h).1 (by decide : (1 : Fin 3) ∈ [1, 2])))).trans ((Nat.add_zero _).trans ?_)
    unfold GatherDims.start
    refine (dif_pos (by decide : (1 : Fin 3) ∈ [1, 2])).trans ?_
    refine congrArg (fun i => min (idx i).toInt.toNat 255) ?_
    funext b; refine Fin.ext ?_
    match b with
    | ⟨0, _⟩ => rfl
    | ⟨1, _⟩ => rfl
  | ⟨2, _⟩ =>
    refine (congrArg (_ + ·) (GatherDims.offCoord_eq_zero G j (2 : Fin 3)
      (fun h => ((GatherDims.mem_sKept _ _).mp h).1 (by decide : (2 : Fin 3) ∈ [1, 2])))).trans ((Nat.add_zero _).trans ?_)
    unfold GatherDims.start
    refine (dif_pos (by decide : (2 : Fin 3) ∈ [1, 2])).trans ?_
    refine congrArg (fun i => min (idx i).toInt.toNat 255) ?_
    funext b; refine Fin.ext ?_
    match b with
    | ⟨0, _⟩ => rfl
    | ⟨1, _⟩ => rfl

/-- A table's word, wrapped round if it is negative: the reference's reading of its indices. -/
def wrapped (lit : Fin 32896 → BitVec 32) : IVec S32896 32 :=
  select (cmpi .slt (fun i => lit (S32896.rowMajor i)) (broadcastInDim S32896 ![] bcast_S_S32896 (constantI S_ 32 0#32)))
    (addi (fun i => lit (S32896.rowMajor i)) (broadcastInDim S32896 ![] bcast_S_S32896 (constantI S_ 32 256#32)))
    (fun i => lit (S32896.rowMajor i))

/-- A word below 256 is not negative: the reading is the word itself. -/
theorem wrapped_apply (lit : Fin 32896 → BitVec 32) (p : Fin 32896) (h : (lit p).toNat < 256) :
    wrapped lit (ix1 p) = lit p := by
  have e : S32896.rowMajor (ix1 p) = p := Fin.ext (Shape.rowMajor_val_one _)
  show Scalar.select (IntOp.cmpi .slt (lit (S32896.rowMajor (ix1 p))) 0#32) _ (lit (S32896.rowMajor (ix1 p))) = _
  rw [e, WordCmp.cmpi_slt_zero, decide_eq_false (by omega)]
  rfl

/-- The two tables side by side: each position's pair of indices. -/
def pairs (a b : IVec S32896 32) : IVec S32896x2 32 :=
  concatenate S32896x2 1 [⟨S32896x1, broadcastInDim S32896x1 ![0] bcast_S32896_S32896x1_0 a⟩,
    ⟨S32896x1, broadcastInDim S32896x1 ![0] bcast_S32896_S32896x1_0 b⟩] concatenates_S32896x1_S32896x1_S32896x2_d1

/-- The first of a pair is from the first table … -/
theorem pairs_fst (a b : IVec S32896 32) (p : Fin 32896) : pairs a b (ix2 (n0 := 32896) (n1 := 2) p 0) = a (ix1 p) := by
  unfold pairs
  refine (concatenate_pair_apply_left (t := S32896x2) (s₁ := S32896x1) (s₂ := S32896x1) 1 _ _ _ _ rfl
    (ix2 (n0 := 32896) (n1 := 1) p 0) (fun c => match c with | ⟨0, _⟩ => rfl | ⟨1, _⟩ => rfl)).trans ?_
  exact congrArg a (funext fun c => match c with | ⟨0, _⟩ => rfl)

/-- … the second from the second. -/
theorem pairs_snd (a b : IVec S32896 32) (p : Fin 32896) : pairs a b (ix2 (n0 := 32896) (n1 := 2) p 1) = b (ix1 p) := by
  unfold pairs
  refine (concatenate_pair_apply_right (t := S32896x2) (s₁ := S32896x1) (s₂ := S32896x1) 1 _ _ _ _ rfl rfl
    (ix2 (n0 := 32896) (n1 := 1) p 0) (fun c => match c with | ⟨0, _⟩ => fun _ => rfl | ⟨1, _⟩ => fun h => absurd rfl h) rfl).trans ?_
  exact congrArg b (funext fun c => match c with | ⟨0, _⟩ => rfl)

/-- A word that is a number below 256, read signed and kept within the matrix, is that number. -/
theorem read_word {w : BitVec 32} {n : ℕ} (h : w.toNat = n) (hn : n < 256) : min w.toInt.toNat 255 = n := by
  rw [BitVec.toInt_eq_toNat_of_lt (by omega), Int.toNat_natCast]
  omega

/-- THE REFERENCE'S VALUE: what it gathers is every matrix's packed triangle. -/
theorem gather_upper {α : Type} (x : S1024x256x256.Idx → α) : Host.gather G x (pairs (wrapped lit0) (wrapped lit1)) = upper x := by
  funext j
  obtain ⟨h1, h2⟩ := Tables.tables (p := (j 1).val) (j 1).isLt
  have h := entry_of (p := (j 1).val) (j 1).isLt
  have e0 : pairs (wrapped lit0) (wrapped lit1) (ix2 (n0 := 32896) (n1 := 2) (j 1) 0) = lit0t (j 1).val :=
    (pairs_fst _ _ _).trans (wrapped_apply lit0 (j 1) (show (lit0t (j 1).val).toNat < 256 by omega))
  have e1 : pairs (wrapped lit0) (wrapped lit1) (ix2 (n0 := 32896) (n1 := 2) (j 1) 1) = lit1t (j 1).val :=
    (pairs_snd _ _ _).trans (wrapped_apply lit1 (j 1) (show (lit1t (j 1).val).toNat < 256 by omega))
  rw [gather_apply]
  unfold upper
  refine congrArg x (funext fun a => Fin.ext ?_)
  match a with
  | ⟨0, _⟩ => rfl
  | ⟨1, _⟩ => exact (congrArg (fun w : BitVec 32 => min w.toInt.toNat 255) e0).trans (read_word h1 (by omega : rowOf (j 1).val < 256))
  | ⟨2, _⟩ => exact (congrArg (fun w : BitVec 32 => min w.toInt.toNat 255) e1).trans (read_word h2 h.2.1)

/-- Every run of the reference ends with its result the packed triangles, the argument unchanged and all counters at
    zero. -/
theorem run_main {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v13)
          = (upper (m ((c.tc : Thread nD τ).loc main_arg0) : S1024x256x256.Idx → Elt F .f32) : S1024x32896.Idx → Elt F .f32)
      ∧ r.2.mem ((c.tc : Thread nD τ).loc main_arg0) = m ((c.tc : Thread nD τ).loc main_arg0)) ∧ r.2.sem = fun _ => 0 :=
  (θ_run defs _ _).mono (fun r h => ⟨fun c => ⟨(h c).1.trans (gather_upper _), (h c).2⟩, sem_eq_zero_of_no_sems rfl _⟩)
    (Value.run m ρ)

end Cert.ReferenceIdeal.Run

end
-- ==== Proof.lean ====
/-
  The five claims. The kernel and the reference each end with the packed upper triangle of every matrix: the kernel's run
  is Proof/Launch.lean's, the idealized kernel's is Proof/Same.lean's, the reference's is Proof/Reference.lean's.
-/
module

public import proofs.«01_k».proof.Defs
public import proofs.«01_k».proof.Proof.Launch
public import proofs.«01_k».proof.Proof.Same
public import proofs.«01_k».proof.Proof.Reference
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Packing

/-- The kernel runs, leaves its argument as it was and all counters at zero. -/
theorem frame_kernel : Cert.quiescent_Kernel := fun m ρ _ =>
  (θ_run (Cert.Kernel.defs (F := Bits)) _ _).mono (fun _ h => ⟨fun c => (h.1 c).1, h.2⟩) (Cert.Kernel.Run.run_main m ρ)

/-- So does the idealized kernel … -/
theorem frame_kernelIdeal : Cert.quiescent_KernelIdeal := fun m ρ _ =>
  (θ_run (Cert.KernelIdeal.defs (F := Ideal)) _ _).mono (fun _ h => ⟨fun c => (h.1 c).2, h.2⟩) (Cert.KernelIdeal.Run.run_main m ρ)

/-- … and so does the reference. -/
theorem frame_referenceIdeal : Cert.quiescent_ReferenceIdeal := fun m ρ _ =>
  (θ_run (Cert.ReferenceIdeal.defs (F := Ideal)) _ _).mono (fun _ h => ⟨fun c => (h.1 c).2, h.2⟩) (Cert.ReferenceIdeal.Run.run_main m ρ)

/-- The idealization rewrote no operation. -/
theorem preserves : Cert.preserves_Kernel_KernelIdeal := trivial

/-- From equal arguments the idealized kernel and the reference end with equal results: both are the packed triangles of
    the argument's matrices. -/
theorem algebraic : Cert.algebraic_KernelIdeal_ReferenceIdeal := fun m ρ m' ρ' _ hm =>
  ⟨fun c => upper (m ((c.tc : Thread Cert.KernelIdeal.nD Cert.KernelIdeal.τ).loc Cert.KernelIdeal.main_arg0)),
    (θ_run (Cert.KernelIdeal.defs (F := Ideal)) _ _).mono (fun _ h => h.1) (Cert.KernelIdeal.Run.run_main m ρ),
    (θ_run (Cert.ReferenceIdeal.defs (F := Ideal)) _ _).mono
      (fun _ h c => ⟨(h.1 c).1.trans (congrArg upper (hm c)), (h.1 c).2⟩) (Cert.ReferenceIdeal.Run.run_main m' ρ')⟩

/-- The certificate. -/
theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
